-- ==== Defs.lean ====
def Pre_Kernel [hPre_index_in_buffer : Cert.Pre_index_in_buffer.Facts] (m : (ℓ : Loc Cert.Kernel.nD Cert.Kernel.τ Cert.Kernel.sig) → Buf (Elt Bits) ℓ) : Prop :=
  ∀ c : Dev Cert.Kernel.nD,
    (Cert.Pre_index_in_buffer.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_index_in_buffer : Cert.Pre_index_in_buffer.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_buffer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_buffer [hPre_index_in_buffer : Cert.Pre_index_in_buffer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_buffer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_index_in_buffer : Cert.Pre_index_in_buffer.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_index_in_buffer : Cert.Pre_index_in_buffer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_index_in_buffer [hReferenceIdeal : Cert.ReferenceIdeal.Facts] [hPre_index_in_buffer : Cert.Pre_index_in_buffer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_buffer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_buffer : Cert.Pre_index_in_buffer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_in_buffer : Cert.Pre_index_in_buffer.Facts),
    quiescent_Kernel (hKernel := hKernel) (hPre_index_in_buffer := hPre_index_in_buffer)
    ∧ quiescent_KernelIdeal (hKernelIdeal := hKernelIdeal) (hPre_index_in_buffer := hPre_index_in_buffer)
    ∧ quiescent_ReferenceIdeal (hReferenceIdeal := hReferenceIdeal)
    ∧ quiescent_ReferenceIdeal_pre_index_in_buffer (hReferenceIdeal := hReferenceIdeal) (hPre_index_in_buffer := hPre_index_in_buffer)
    ∧ preserves_Kernel_KernelIdeal
    ∧ algebraic_KernelIdeal_ReferenceIdeal (hKernelIdeal := hKernelIdeal) (hReferenceIdeal := hReferenceIdeal) (hPre_index_in_buffer := hPre_index_in_buffer)
-- ==== Pre_index_in_buffer.lean ====
abbrev S_ : Shape := ⟨0, ![]⟩
abbrev S1000000 : Shape := ⟨1, ![1000000]⟩

class Facts : Prop where

variable [Facts]

def fn {F : FTy → Type} [FloatOps F] (main_arg0 : FVec F S_ .f32) (main_arg1 : FVec F S1000000 .f32) (main_arg2 : FVec F S_ .f32) : IVec S_ 1 :=
  let main_v0 : IVec S_ 32 := fptosi 32 main_arg2
  let main_c : IVec S_ 32 := constantI S_ 32 0#32
  let main_v1 : IVec S_ 1 := cmpi .sge main_v0 main_c
  let main_c_0 : IVec S_ 32 := constantI S_ 32 1000000#32
  let main_v2 : IVec S_ 1 := cmpi .slt main_v0 main_c_0
  let main_v3 : IVec S_ 1 := andi main_v1 main_v2
  main_v3
-- ==== Kernel.lean ====
abbrev S_ : Shape := ⟨0, ![]⟩
abbrev S1000000 : Shape := ⟨1, ![1000000]⟩
abbrev S8 : Shape := ⟨1, ![8]⟩
abbrev S1 : Shape := ⟨1, ![1]⟩

abbrev nBuf : Table → Nat
  | .hbm => 8
  | .local .scVector .vmem => 2
  | _ => 0

abbrev bufTy : (tb : Table) → Fin (nBuf tb) → BufTy
  | .hbm, ⟨0, _⟩ => ⟨S_, .f32⟩
  | .hbm, ⟨1, _⟩ => ⟨S1000000, .f32⟩
  | .hbm, ⟨2, _⟩ => ⟨S_, .f32⟩
  | .hbm, ⟨3, _⟩ => ⟨S_, .i32⟩
  | .hbm, ⟨4, _⟩ => ⟨S8, .i32⟩
  | .hbm, ⟨5, _⟩ => ⟨S8, .f32⟩
  | .hbm, ⟨6, _⟩ => ⟨S1, .f32⟩
  | .hbm, ⟨7, _⟩ => ⟨S_, .f32⟩
  | .local .scVector .vmem, ⟨0, _⟩ => ⟨S8, .i32⟩
  | .local .scVector .vmem, ⟨1, _⟩ => ⟨S8, .f32⟩
  | _, _ => ⟨S_, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v1_scv : Ref sig .scVector := ⟨.hbm, 4, rfl⟩
abbrev main_arg1_scv : Ref sig .scVector := ⟨.hbm, 1, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== ReferenceIdeal.lean ====
abbrev S_ : Shape := ⟨0, ![]⟩
abbrev S1000000 : Shape := ⟨1, ![1000000]⟩
abbrev S1 : Shape := ⟨1, ![1]⟩

abbrev nBuf : Space → Nat
  | .hbm => 36
  | .vmem => 0
  | .smem => 0
  | _ => 0

abbrev bufTy : (tb : Table) → Fin (tcTables nBuf tb) → BufTy
  | .hbm, ⟨0, _⟩ => ⟨S_, .f32⟩
  | .hbm, ⟨1, _⟩ => ⟨S1000000, .f32⟩
  | .hbm, ⟨2, _⟩ => ⟨S_, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S1000000, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .i1⟩
  | .hbm, ⟨32, _⟩ => ⟨S_, .i1⟩
  | .hbm, ⟨33, _⟩ => ⟨S_, .i1⟩
  | .hbm, ⟨34, _⟩ => ⟨S_, .f32⟩
  | .hbm, ⟨35, _⟩ => ⟨S_, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_cst_0 : Ref sig .tc := ⟨.hbm, 28, rfl⟩
abbrev main_call0_v3 : Ref sig .tc := ⟨.hbm, 29, rfl⟩
abbrev main_call0_cst_1 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Proof.Lookup.lean ====
/-
  The values of the delay-line lookup, apart from any run.

  The kernel turns the float index into a 32-bit word, writes that word into all eight entries of a list, fetches the
  eight elements of the buffer the list names and returns the first of them. Here: what the index precondition says of
  the word, the element a word picks, the gather's payload at such a list, and the cut of the first of eight equal
  elements. Everything holds for any float values.
-/
module

public import proofs.«01_k».proof.Defs
public import proofs.«01_k».proof.Proof.Gen.KernelIdeal
public import proofs.«01_k».proof.Proof.Gen.Pre_index_in_buffer
public import Idealize.ShloMosaic.Lib.SparseCore.Stream
public import Idealize.ShloMosaic.Lib.DynamicIndex
public import Idealize.ShloMosaic.Lib.Pipeline.Value

@[expose] public section

noncomputable section

namespace Cert.Proof.Lookup

open Cert.KernelIdeal Cert.KernelIdeal.Gen
open Idealize.ShloMosaic

/-! ## Words that are indices of the buffer -/

/-- A word is an index of the buffer: read as a natural number it is below one million. -/
def InBuffer (w : BitVec 32) : Prop := w.toNat < 1000000

/-- An index of the buffer is the same number read signed. -/
theorem InBuffer.toInt {w : BitVec 32} (h : InBuffer w) : w.toInt = (w.toNat : Int) := by
  unfold InBuffer at h
  rw [BitVec.toInt_eq_toNat_cond]
  split <;> omega

/-- The conjunction of "not negative" and "below one million", both signed comparisons, is true of indices of the
    buffer only. -/
theorem inBuffer_of_checks (w : BitVec 32) (h : IntOp.andi (IntOp.cmpi .sge w 0#32) (IntOp.cmpi .slt w 1000000#32) = 1#1) :
    InBuffer w := by
  have split : ∀ p q : Bool, IntOp.andi (BitVec.ofBool p) (BitVec.ofBool q) = 1#1 → p = true ∧ q = true := by decide
  obtain ⟨hlo, hhi⟩ := split _ _ h
  simp only [BitVec.sle_eq_decide, BitVec.slt_eq_decide, decide_eq_true_eq] at hlo hhi
  have hlo' : 0 ≤ w.toInt := hlo
  have hhi' : w.toInt < 1000000 := hhi
  rw [BitVec.toInt_eq_toNat_cond] at hlo' hhi'
  have := w.isLt
  unfold InBuffer
  split at hlo' <;> omega

variable {F : FTy → Type} [FloatOps F]

/-- The index word of a scalar float array: its one element rounded toward zero into a signed 32-bit word. -/
def wordOf (p : FVec F S_ .f32) : BitVec 32 := (fptosi 32 p : IVec S_ 32) (Shape.Idx.first (by decide))

/-- A rank-zero shape has one index. -/
theorem scalar_idx (i j : S_.Idx) : i = j := funext fun a => a.elim0

/-- The converted array is its one word everywhere. -/
theorem fptosi_eq_wordOf (p : FVec F S_ .f32) (i : S_.Idx) : (fptosi 32 p : IVec S_ 32) i = wordOf p :=
  congrArg (fptosi 32 p : IVec S_ 32) (scalar_idx _ _)

/-- THE PRECONDITION: where the claims' predicate is all ones, the index word is an index of the buffer. -/
theorem inBuffer_of_pre (x : FVec F S_ .f32) (b : FVec F S1000000 .f32) (p : FVec F S_ .f32)
    (h : Cert.Pre_index_in_buffer.fn (F := F) x b p = fun _ => 1#1) : InBuffer (wordOf p) :=
  inBuffer_of_checks _ (congrFun h (Shape.Idx.first (by decide)))

/-! ## The picked element -/

/-- Position `n` of the buffer (taken modulo its length, so that every number names one). -/
def place (n : ℕ) : S1000000.Idx
  | ⟨0, _⟩ => (⟨n % 1000000, Nat.mod_lt _ (by decide)⟩ : Fin 1000000)

/-- The element of the buffer that a word picks. -/
def pick {α : Type} (b : S1000000.Idx → α) (w : BitVec 32) : α := b (place w.toNat)

/-- An index whose one coordinate is an index word of the buffer is that word's position. -/
theorem eq_place {w : BitVec 32} (h : InBuffer w) (i : S1000000.Idx) (hi : (i 0).val = w.toNat) : i = place w.toNat := by
  funext a
  match a with
  | ⟨0, _⟩ => exact Fin.ext (hi.trans (Nat.mod_eq_of_lt h).symm)

/-- The list of eight copies of the index word, as the broadcast makes it. -/
def eightOf (p : FVec F S_ .f32) : IVec S8 32 := broadcastInDim S8 ![] bcast_S_S8 (fptosi 32 p : IVec S_ 32)

/-- Every entry of the list is the index word. -/
theorem eightOf_apply (p : FVec F S_ .f32) (j : S8.Idx) : eightOf p j = wordOf p :=
  fptosi_eq_wordOf p _

/-- THE GATHER'S PAYLOAD at a list of which every entry is the one index word `w`: the picked element, eight times. -/
theorem payload_eq {g : S1000000.Gathers 0 S8} (b : S1000000.Idx → Elt F .f32) (idx : S8.Idx → Elt F .i32) (w : BitVec 32)
    (hw : InBuffer w) (hidx : ∀ j, idx j = w) (hn : S8.numel = S8.size g.axis') (hin : ∀ x, (idx x).toNat < S1000000.size g.axis) :
    SparseCore.gatherPayload g b (SparseCore.rows idx hn hin) = fun _ => pick b w := by
  funext j
  unfold SparseCore.gatherPayload pick
  refine congrArg b (eq_place hw _ ?_)
  have h := congrArg Fin.val (Shape.Gathers.idx_axis g (SparseCore.rows idx hn hin) j)
  refine h.trans ?_
  show (idx _).toNat = w.toNat
  rw [hidx]

/-- The first of eight equal elements, cut out and reshaped to a scalar, is that element. -/
theorem first_of_eight {α : Type} (y : α) :
    shapeCast S_ (extractStridedSlice S1 ![0] (fun _ : S8.Idx => y) slices_S8_S1_0) shapeCasts_S1_S_ = fun _ => y := rfl

/-! ## The reference's term -/

/-- The reference reads the buffer at the index word, one million added where the word is negative, by a clamped
    dynamic slice of length one. At an index of the buffer nothing is added and nothing clamped: it is the picked
    element. -/
theorem slice_eq_pick (b : S1000000.Idx → Elt F .f32) (p : FVec F S_ .f32) (hw : InBuffer (wordOf p))
    (start : Fin S1000000.rank → Int) (hs : S1000000.Slices (fun _ => 0) S1)
    (hstart : ∀ a, start a = ((select (cmpi .slt (fptosi 32 p : IVec S_ 32) (constantI S_ 32 0#32))
      (addi (fptosi 32 p : IVec S_ 32) (constantI S_ 32 1000000#32)) (fptosi 32 p : IVec S_ 32)) (Shape.Idx.first (by decide)) : BitVec 32).toInt)
    (hc : S1.ShapeCasts S_) :
    shapeCast S_ (Host.dynamicSlice S1 b start hs) hc = fun _ => pick b (wordOf p) := by
  have hlt : (wordOf p).toNat < 1000000 := hw
  have hnum : ∀ a, start a = ((wordOf p).toNat : Int) := fun a => by
    rw [hstart a, select_slt_zero_of_nonneg _ _ _ _ (by
      rw [fptosi_eq_wordOf, hw.toInt]; omega), fptosi_eq_wordOf, hw.toInt]
  have hoff : S1000000.Slices (fun _ => (wordOf p).toNat) S1 := ⟨rfl, fun a => by
    match a with
    | ⟨0, _⟩ => show (wordOf p).toNat + 1 ≤ 1000000; omega⟩
  rw [Host.dynamicSlice_eq_extractStridedSlice S1 b start (fun _ => (wordOf p).toNat) hs hoff hnum]
  funext i
  unfold shapeCast
  refine extractStridedSlice_apply _ _ hoff _ (place (wordOf p).toNat) fun a => ?_
  match a with
  | ⟨0, _⟩ =>
    have hz : ∀ k : Fin 1, k.val = 0 := fun k => by omega
    refine (Nat.mod_eq_of_lt hlt).trans ?_
    exact (Nat.add_zero _).symm.trans (congrArg ((wordOf p).toNat + ·) (hz _).symm)

end Cert.Proof.Lookup

end
-- ==== Proof.Setup.lean ====
/-
  The lookup's one SparseCore call, set up for its run: the call's table, the resources of the proof, and what the call's
  handshakes carry.

  The call runs one task, on vector subcore 0 of SparseCore 0. It takes the index list, the delay buffer and the result
  array whole and brings them back: the list and the buffer as they were, the result array holding the picked element in
  each of its eight places. The result's VALUE is part of what the handshakes carry, so that a run of the whole program
  ends knowing it.
-/
module

public import proofs.«01_k».proof.Defs
public import proofs.«01_k».proof.Proof.Lookup
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen Cert.Proof.Lookup

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's tables -/

/-- The labels of the program's kernels (it has no TensorCore kernel). -/
abbrev ΛK : Labels := Pipeline.Sig Λ₀ (Fin 0) fun p => (pcfgs (F := F) p).Adm
/-- The one SparseCore call. -/
abbrev K : SparseCore.Cfg τ sig (ΛK (F := F)) 1 := sc (F := F)
/-- The kernels' bodies. -/
abbrev D [FloatOps F] : Defs nD τ sig (Elt F) (ΛK (F := F)) := Pipeline.defs pcfgs defs₀
/-- No loop of the program needs a variant. -/
abbrev 𝒱₀ : Variants := Variants.none
abbrev 𝒱 : Variants := 𝒱₀.lift
abbrev v₀ : 𝒱.V := Sum.inl none

/-- The call's launch semaphores are four different ones, none of them a kernel's scratch, and no task shares a
    SparseCore's buffer. -/
theorem callFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The proof's resources: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The delay buffer, the index scalar, the index list and the gathered result, in device memory. -/
abbrev bufLoc (d : Dev nD) : Loc nD τ sig := (SparseCore.T d).loc main_arg1
abbrev posLoc (d : Dev nD) : Loc nD τ sig := (SparseCore.T d).loc main_arg2
abbrev listLoc (d : Dev nD) : Loc nD τ sig := (SparseCore.T d).loc main_v1
abbrev outLoc (d : Dev nD) : Loc nD τ sig := (SparseCore.T d).loc main_v2

variable [FloatOps F]

/-- The launch's index word on device `d`. -/
def word (d : Dev nD) : BitVec 32 := wordOf (m (posLoc d) : FVec F S_ .f32)

/-- What the proof asks of the launch memory: the index word is an index of the buffer. -/
def IndexOK : Prop := ∀ d : Dev nD, InBuffer (word m d)

/-- The index list as the call receives it: eight copies of the index word. -/
def theList (d : Dev nD) : Buf (Elt F) (listLoc d) := eightOf (m (posLoc d) : FVec F S_ .f32)

/-- The element of the buffer the index word picks. -/
def picked (d : Dev nD) : Elt F .f32 := pick (α := Elt F .f32) (m (bufLoc d)) (word m d)

/-- The result array as the call leaves it: the picked element in each of its eight places. -/
def gathered (d : Dev nD) : Buf (Elt F) (outLoc d) := fun _ => picked m d

theorem theList_apply (d : Dev nD) (j : S8.Idx) : theList m d j = word m d := eightOf_apply _ j

/-! ## What the handshakes carry -/

/-- The list, the buffer, and the result array at contents `f`, whole. -/
abbrev listPts (d : Dev nD) : sProp 𝕄 := listLoc d ↦{fullShare} theList m d
abbrev bufPts (d : Dev nD) : sProp 𝕄 := bufLoc d ↦{fullShare} m (bufLoc d)
abbrev outPts (d : Dev nD) (f : Buf (Elt F) (outLoc d)) : sProp 𝕄 := outLoc d ↦{fullShare} f

/-- Into the call and its task: the list, the buffer, and the result array at its launch contents. -/
abbrev Into (d : Dev nD) : sProp 𝕄 := iprop(listPts m d ∗ bufPts m d ∗ outPts d (m (outLoc d)))
/-- Back from the task and the call: the list, the buffer, and the result array at the picked element. -/
abbrev Back (d : Dev nD) : sProp 𝕄 := iprop(listPts m d ∗ bufPts m d ∗ outPts d (gathered m d))

/-- The payloads of the call's four handshakes. -/
def P : (K (F := F)).Pay (nD := nD) (Val := Elt F) (Name := ℕ) (U := UU) where
  st := fun q d _ => match q with | 0 => Into m d
  dn := fun q d _ => match q with | 0 => Back m d
  go := fun q d _ _ => match q with | 0 => Into m d
  td := fun q d _ _ => match q with | 0 => Back m d
  x := fun _ _ => iprop(emp)

instance P_storable : (P (F := F) m).IsStorable where
  st q d _ := match q with | 0 => (inferInstance : BI.Storable (upEmb : UEmb _ 𝕄) (Into m d))
  dn q d _ := match q with | 0 => (inferInstance : BI.Storable (upEmb : UEmb _ 𝕄) (Back m d))
  go q d _ _ := match q with | 0 => (inferInstance : BI.Storable (upEmb : UEmb _ 𝕄) (Into m d))
  td q d _ _ := match q with | 0 => (inferInstance : BI.Storable (upEmb : UEmb _ 𝕄) (Back m d))

/-- The call's one task takes all the call received and brings all of it back. -/
theorem oneTask : (K (F := F)).VecSplit' (P m) 0 := by
  intro d c
  show Into m d ⊢ |={Set.univ}=> iprop((bigSep Finset.univ fun _ : Fin 1 => Into m d) ∗ ((bigSep Finset.univ fun _ : Fin 1 => Back m d) -∗ Back m d))
  rw [bigSep_univ_of_subsingleton (0 : Fin 1), bigSep_univ_of_subsingleton (0 : Fin 1)]
  iintro H; imodintro
  isplitl [H]; · iexact H
  iintro H; iexact H

/-! ## The launch's ghost state -/

/-- The handshakes' rounds at their start, no transfer counted yet. -/
def u₀ : UU := (initOf (K (F := F)).hsCells (K (F := F)).hsToks, 1)

/-- Nothing, once per member of a set, is nothing. -/
theorem nothing_each {I : Type} (s : Finset I) : (bigSep s fun _ => iprop(emp)) = (iprop(emp) : sProp 𝕄) := bigSep_emp_const s

/-- The launch hands out the handshakes' rounds; no thread needs anything else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

end Cert.Proof.Run

end
-- ==== Proof.Task.lean ====
/-
  The task of the lookup's SparseCore call, run: the index list is fetched into the subcore's memory, the indirect stream
  brings the eight elements of the delay buffer it names, and they are copied out to the result array. Each of the three
  transfers is waited for before the next begins.
-/
module

public import proofs.«01_k».proof.Proof.Setup

@[expose] public section

noncomputable section

namespace Cert.Proof.Run

open Cert.KernelIdeal Cert.KernelIdeal.Gen Cert.Proof.Lookup

open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "listV" => (Memref.whole Cert.KernelIdeal.main_v1_scv : Memref Cert.KernelIdeal.sig Kind.scVector Space.hbm Cert.KernelIdeal.S8 EltTy.i32)
local notation "bufV" => (Memref.whole Cert.KernelIdeal.main_arg1_scv : Memref Cert.KernelIdeal.sig Kind.scVector Space.hbm Cert.KernelIdeal.S1000000 EltTy.f32)
local notation "outV" => (Memref.whole Cert.KernelIdeal.main_v2_scv : Memref Cert.KernelIdeal.sig Kind.scVector Space.hbm Cert.KernelIdeal.S8 EltTy.f32)
local notation "idxV" => (Memref.whole Cert.KernelIdeal.cc0_scratch0 : Memref Cert.KernelIdeal.sig Kind.scVector Space.vmem Cert.KernelIdeal.S8 EltTy.i32)
local notation "eltV" => (Memref.whole Cert.KernelIdeal.cc0_scratch1 : Memref Cert.KernelIdeal.sig Kind.scVector Space.vmem Cert.KernelIdeal.S8 EltTy.f32)

variable (m : (ℓ : Loc nD τ sig) → Buf (Elt F) ℓ) [FloatOps F] (d : Dev nD) (L : grid0.Coords)

/-- The SparseCore and the vector subcore of a grid point, and the thread that runs it. -/
abbrev coreOf (L : grid0.Coords) : Fin τ.nSC := (L 0).castLE hcore0
abbrev subOf (L : grid0.Coords) : Fin τ.nSub := (L 1).castLE hsub0
abbrev thrOf (d : Dev nD) (L : grid0.Coords) : Thread nD τ := V d (coreOf L) (subOf L)

/-- The task's three transfer semaphores: the list fetch's, the stream's, the copy-out's. -/
abbrev fetchCell : GSem nD τ sig := (thrOf d L, .dma cc0_scoped0.sem)
abbrev streamCell : GSem nD τ sig := (thrOf d L, .dma cc0_scratch2.sem)
abbrev outCell : GSem nD τ sig := (thrOf d L, .dma cc0_scoped1.sem)

omit [FloatOps F] in
/-- The subcore's own semaphores at zero: the three of the task, and the rest. -/
theorem taskSems :
    (ownSems0 (thrOf d L) : sProp 𝕄)
      = iprop(semVal (fetchCell d L) 0 ∗ semVal (streamCell d L) 0 ∗ semVal (outCell d L) 0
          ∗ bigSep ((((ownCells (thrOf d L)).erase (fetchCell d L)).erase (streamCell d L)).erase (outCell d L)) fun g => semVal g 0) := by
  have own : ∀ s : DmaSem sig, (SemLoc.dma s : SemLoc sig).isScoped .scVector = true → ((thrOf d L, SemLoc.dma s) : GSem nD τ sig) ∈ ownCells (thrOf d L) :=
    fun s h => mem_ownCells.mpr ⟨rfl, h⟩
  unfold SparseCore.Cfg.ownSems0
  rw [SparseCore.bigSep_erase' (own cc0_scoped0.sem (by decide)),
    SparseCore.bigSep_erase' (Finset.mem_erase.mpr ⟨by simp [fetchCell, streamCell]; decide, own cc0_scratch2.sem (by decide)⟩),
    SparseCore.bigSep_erase' (Finset.mem_erase.mpr ⟨by simp [streamCell, outCell]; decide, Finset.mem_erase.mpr ⟨by simp [fetchCell, outCell]; decide,
      own cc0_scoped1.sem (by decide)⟩⟩)]

omit [FloatOps F] in
/-- The subcore's own buffers: the list's and the elements' scratch, at some contents, and the rest. -/
theorem taskBufs :
    (ownBufs (thrOf d L) : sProp 𝕄)
      = iprop((∃ f, (thrOf d L).loc cc0_scratch0 ↦{fullShare} f) ∗ (∃ f, (thrOf d L).loc cc0_scratch1 ↦{fullShare} f)
          ∗ bigSep (((ownRefs (τ := τ) (.scVector (coreOf L) (subOf L))).erase ((Proc.scVector (coreOf L) (subOf L)).devRef cc0_scratch0)).erase
              ((Proc.scVector (coreOf L) (subOf L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (coreOf L) (subOf L))
    (b := (Proc.scVector (coreOf L) (subOf L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (coreOf L) (subOf L)) (b := (Proc.scVector (coreOf L) (subOf L)).devRef cc0_scratch1) rfl⟩)]

/-- The buffer as the stream addresses it: its slice of every element. -/
abbrev bufAll : Memref sig .scVector .hbm S1000000 .f32 :=
  (bufV).slice (Rect.unit (s := S1000000) ![0] S1000000.size inb_S1000000_S1000000_0) (fun _ => rfl)

/-- Reading through the slice of every element reads the buffer. -/
theorem read_bufAll (f : Buf (Elt F) (bufLoc d)) : bufAll.view.read (Elt F) f = f :=
  Memref.read_access_unit_zero (Elt F) main_arg1_scv (off := ![0]) (funext fun a => by fin_cases a; rfl) inb_S1000000_S1000000_0 f

/-- The list's scratch after the fetch holds the list. -/
theorem fetched (fs : Buf (Elt F) ((thrOf d L).loc cc0_scratch0)) :
    (idxV).view.write (Elt F) fs ((listV).view.read (Elt F) (theList m d)) Finset.univ = theList m d :=
  View.write_whole_univ (Val := Elt F) cc0_scratch0 fs (theList m d)

/-- Every word of the list is an index of the buffer. -/
theorem list_inBuffer (h : IndexOK m) (x : S8.Idx) : (theList m d x : BitVec 32).toNat < 1000000 := by
  rw [theList_apply]; exact h d

omit [FloatOps F] in
/-- The credits of the stream's eight elements add up to the credit its wait names. -/
theorem rowCredits : ∀ g : S1000000.Gathers 0 S8,
    ∑ j, ((eltV).slice (S8.rowRect g.axis' j) (S8.stride_rowRect g.axis' j)).view.dmaCredit = (eltV).view.dmaCredit := by decide

/-- The elements' scratch after the stream holds the picked element in each of its eight places. -/
theorem streamed (h : IndexOK m) (fr : Buf (Elt F) ((thrOf d L).loc cc0_scratch1))
    (hin : ∀ x, ((idxV).view.read (Elt F) (theList m d : Buf (Elt F) ((thrOf d L).loc cc0_scratch0)) x).toNat < S1000000.size gathers_S1000000_S8.axis) :
    (eltV).view.write (Elt F) fr (SparseCore.gatherPayload gathers_S1000000_S8 (bufAll.view.read (Elt F) (m (bufLoc d)))
        (SparseCore.rows ((idxV).view.read (Elt F) (theList m d : Buf (Elt F) ((thrOf d L).loc cc0_scratch0))) rfl hin)) Finset.univ
      = (gathered m d : Buf (Elt F) ((thrOf d L).loc cc0_scratch1)) := by
  refine (View.write_whole_univ (Val := Elt F) cc0_scratch1 fr _).trans ?_
  refine (payload_eq (F := F) (bufAll.view.read (Elt F) (m (bufLoc d))) (theList m d) (word m d) (h d) (theList_apply m d) rfl hin).trans ?_
  rw [read_bufAll]; rfl

/-- The result array after the copy-out holds the picked element in each of its eight places. -/
theorem copiedOut :
    (outV).view.write (Elt F) (m (outLoc d)) ((eltV).view.read (Elt F) (gathered m d)) Finset.univ = gathered m d :=
  View.write_whole_univ (Val := Elt F) main_v2_scv (m (outLoc d)) (gathered m d)

set_option maxHeartbeats 4000000 in
/-- THE TASK: from the list, the buffer and the result array, with the subcore's own buffers and its semaphores at zero,
    it ends with the same, the result array holding the picked element in each of its eight places. -/
theorem task_run (hF : (K (F := F)).Facts) (hok : IndexOK m) (O : CellTallies nD τ sig (HIx 1)) (W : Waits sig (HIx 1)) (hO : ∀ g, O g none = 0) :
    iprop(levAts (K (F := F)).L (K (F := F)).lev ∗ emp ∗ Into m d
        ∗ scopedBufs (thrOf d L) ∗ scopedSems0 (thrOf d L) ∗ owes (thrOf d L) O W)
      ⊢ wp frame (wpE (defs₀ (F := F)) 𝒱₀ (thrOf d L) none) Set.univ
          (cc0__gather_body L listV (Memref.isWhole_whole _) bufV (Memref.isWhole_whole _) outV (Memref.isWhole_whole _)
            idxV (Memref.isWhole_whole _) eltV (Memref.isWhole_whole _) cc0_scratch2 cc0_scoped0 cc0_scoped1)
          fun _ => iprop(Back m d ∗ scopedBufs (thrOf d L) ∗ scopedSems0 (thrOf d L)
            ∗ ∃ W', ⌜∀ p ∈ W', p ∈ W ∨ p.2 = none⌝ ∗ owes (thrOf d L) O W') := by
  simp only [cc0__gather_body_eq_skeleton]; unfold cc0__gather_body_skel
  rw [(K (F := F)).scopedBufs_V hF d (coreOf L) (subOf L), SparseCore.Cfg.scopedSems0_V (Val := Elt F) d (coreOf L) (subOf L), taskSems, taskBufs]
  iintro ⟨#Hlv, -, ⟨Hlist, Hbuf, Hout⟩, ⟨⟨%fs, Hidx⟩, ⟨%fr, Helt⟩, Hbufs⟩, ⟨Hfetch, Hstream, Hcopy, Hsems⟩, HO⟩
  ihave Hmw := (show levAts (K (F := F)).L (K (F := F)).lev ⊢ Transfers.MayWaits (thrOf d L) (default : HIx 1) O from
    (K (F := F)).mayWaits_none (thr := thrOf d L) hO) $$ Hlv
  ihave Hlist := (Entails.of_eq (show (listPts m d : sProp 𝕄) = ((listV).view.loc (thrOf d L) ↦{fullShare} theList m d) from rfl)) $$ Hlist
  ihave Hbuf := (Entails.of_eq (show (bufPts m d : sProp 𝕄) = ((bufAll).view.loc (thrOf d L) ↦{fullShare} m (bufLoc d)) from rfl)) $$ Hbuf
  ihave Hout := (Entails.of_eq (show (outPts d (m (outLoc d)) : sProp 𝕄) = ((outV).view.loc (thrOf d L) ↦{fullShare} m (outLoc d)) from rfl)) $$ Hout
  ihave Hidx := (Entails.of_eq (show ((thrOf d L).loc cc0_scratch0 ↦{fullShare} fs : sProp 𝕄) = ((idxV).view.loc (thrOf d L) ↦{fullShare} fs) from rfl)) $$ Hidx
  ihave Helt := (Entails.of_eq (show ((thrOf d L).loc cc0_scratch1 ↦{fullShare} fr : sProp 𝕄) = ((eltV).view.loc (thrOf d L) ↦{fullShare} fr) from rfl)) $$ Helt
  sl_exec
  -- the fetched list, named
  ihave Hidx := (Entails.of_eq (show ((idxV).view.loc (thrOf d L) ↦{fullShare}
        View.write (Elt F) (idxV).view fs (task_run.sl.dma0 m d) Finset.univ : sProp 𝕄)
      = ((idxV).view.loc (thrOf d L) ↦{fullShare} theList m d) from congrArg _ (fetched m d L fs))) $$ Hidx
  -- the stream over the list, its three buffers whole
  iapply (SparseCore.wp_gatherFromWhole countersEmb 𝒱₀ (thrOf d L) none (src := bufAll) (dst := eltV) (offs := idxV)
      (hg := gathers_S1000000_S8) (fs := m (bufLoc d)) (fd := fr) (fo := theList m d) (default : HIx 1)
      (eltV).view.dmaCredit (rowCredits _) (by decide) (list_inBuffer m d hok)) $$ [Hbuf Helt Hidx Hstream]
  · iframe Hbuf Helt Hidx Hstream
  iintro Hfl
  sl_exec
  -- its wait
  iapply (Transfers.wp_waitLocalO countersEmb 𝒱₀ (thrOf d L) none (default : HIx 1) (rfl : (eltV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Helt, Hbuf, Hidx⟩, Hstream, HO⟩
  ihave Helt := (Entails.of_eq (congrArg (fun f => ((eltV).view.loc (thrOf d L) ↦{fullShare} f : sProp 𝕄)) (streamed m d L hok fr (list_inBuffer m d hok)))) $$ Helt
  sl_exec
  sl_step
  isplitl [Hlist Hbuf Hout]
  · isplitl [Hlist]; · iexact Hlist
    isplitl [Hbuf]; · iexact Hbuf
    iapply (Entails.of_eq (show ((outV).view.loc (thrOf d L) ↦{fullShare}
          View.write (Elt F) (outV).view (m (outLoc d)) (task_run.sl.dma0_1 m d) Finset.univ : sProp 𝕄)
        = outPts d (gathered m d) from congrArg (fun f => (outPts d f : sProp 𝕄)) (copiedOut m d)))
    iexact Hout
  isplitl [Hidx Helt Hbufs]
  · isplitl [Hidx]; · iexists _; iexact Hidx
    isplitl [Helt]; · iexists _; iexact Helt
    iexact Hbufs
  isplitl [Hfetch Hstream Hcopy Hsems]
  · isplitl [Hfetch]; · iexact Hfetch
    isplitl [Hstream]; · iexact Hstream
    isplitl [Hcopy]; · iexact Hcopy
    iexact Hsems
  iexists _; isplitr
  swap; · iexact HO
  -- the waits recorded are the three transfers'
  ipureintro; intro p hp
  simp only [Finset.mem_insert] at hp
  rcases hp with rfl | rfl | rfl | hp
  · exact .inr rfl
  · exact .inr rfl
  · exact .inr rfl
  · exact .inl hp

/-! ## The task as the call dispatches it -/

/-- The grid point of a SparseCore and a vector subcore. -/
def pointOf (c : Fin (grid0.bound 0)) (s : Fin (grid0.bound 1)) : grid0.Coords :=
  fun | 0 => c | 1 => s | ⟨_ + 2, h⟩ => absurd h (Nat.not_lt.2 (Nat.le_add_left _ _))

/-- The kernel's label on a vector subcore runs the task at the subcore's grid point. -/
theorem label_runs (c : Fin τ.nSC) (s : Fin τ.nSub) :
    defs₀ (F := F) (.scVector c s) 0 ()
      = SparseCore.onTile hcore0 hsub0 (fun c s => cc0__gather_body (pointOf c s)
          listV (Memref.isWhole_whole _) bufV (Memref.isWhole_whole _) outV (Memref.isWhole_whole _)
          idxV (Memref.isWhole_whole _) eltV (Memref.isWhole_whole _) cc0_scratch2 cc0_scoped0 cc0_scoped1) ⟨⟩ c s := rfl

omit [FloatOps F] in
/-- A task that recorded only its own transfers' waits recorded only waits the call allows. -/
theorem waits_allowed {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
/-- THE CALL'S OBLIGATION: the dispatched task turns what it is given into what it must bring back. -/
theorem task_obl (hF : (K (F := F)).Facts) (hok : IndexOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [label_runs]; simp only [SparseCore.onTile, hci, and_self, ↓reduceDIte]
  exact (task_run m d (pointOf ⟨_, hci.1⟩ ⟨_, hci.2⟩) hF hok O W hO).trans (wp_mono frame _ _ fun _ => waits_allowed)

end Cert.Proof.Run

end
-- ==== Proof.Program.lean ====
/-
  The whole lookup, run: the TensorCore converts the index scalar to a word and spreads it over the list, starts the
  SparseCore call and waits for it, cuts the first of the eight gathered elements and reshapes it to a scalar.

  `run_all` is the program's run for any float values, from any launch memory whose index word is an index of the buffer:
  it terminates without a fault, the result is the picked element, the three arguments keep their contents, and every
  semaphore counter is back at zero.
-/
module

public import proofs.«01_k».proof.Proof.Task

@[expose] public section

noncomputable section

namespace Cert.Proof.Run

open Cert.KernelIdeal Cert.KernelIdeal.Gen Cert.Proof.Lookup

open Idealize.ShloMosaic
open Idealize.ShloMosaic.SparseCore (V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays and the operations of @main -/

/-- The sample, the scalar word, the cut element and the result, in device memory. -/
abbrev smpLoc (d : Dev nD) : Loc nD τ sig := (SparseCore.T d).loc main_arg0
abbrev wordLoc (d : Dev nD) : Loc nD τ sig := (SparseCore.T d).loc main_v0
abbrev cutLoc (d : Dev nD) : Loc nD τ sig := (SparseCore.T d).loc main_v3
abbrev resLoc (d : Dev nD) : Loc nD τ sig := (SparseCore.T d).loc main_v4

/-- The eight arrays as a device's references. -/
abbrev rSmp : DevRef τ sig := Proc.devRef .tc (main_arg0 : Ref sig .tc)
abbrev rBuf : DevRef τ sig := Proc.devRef .tc (main_arg1 : Ref sig .tc)
abbrev rPos : DevRef τ sig := Proc.devRef .tc (main_arg2 : Ref sig .tc)
abbrev rWord : DevRef τ sig := Proc.devRef .tc (main_v0 : Ref sig .tc)
abbrev rList : DevRef τ sig := Proc.devRef .tc (main_v1 : Ref sig .tc)
abbrev rOut : DevRef τ sig := Proc.devRef .tc (main_v2 : Ref sig .tc)
abbrev rCut : DevRef τ sig := Proc.devRef .tc (main_v3 : Ref sig .tc)
abbrev rRes : DevRef τ sig := Proc.devRef .tc (main_v4 : Ref sig .tc)

/-- All eight. -/
abbrev arrays : Finset (DevRef τ sig) := {rSmp, rBuf, rPos, rWord, rList, rOut, rCut, rRes}

/-- Holding the eight arrays at a valuation is holding each at its value. -/
theorem held_arrays (d : Dev nD) (W : Valuation τ sig (Elt F)) :
    (held (SparseCore.T d) arrays W : sProp 𝕄)
      = iprop((smpLoc d ↦{fullShare} W rSmp) ∗ (bufLoc d ↦{fullShare} W rBuf) ∗ (posLoc d ↦{fullShare} W rPos)
          ∗ (wordLoc d ↦{fullShare} W rWord) ∗ (listLoc d ↦{fullShare} W rList) ∗ (outLoc d ↦{fullShare} W rOut)
          ∗ (cutLoc d ↦{fullShare} W rCut) ∗ resLoc d ↦{fullShare} W rRes) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the launch memory holds on device `d`. -/
def atLaunch (d : Dev nD) : Valuation τ sig (Elt F) := fun b => m (d, b)

/-- The launch deals the TensorCore exactly the eight arrays, at the launch memory. -/
theorem launch_held (d : Dev nD) :
    (unscopedBufs d (fun b => m ((SparseCore.T d).loc b)) : sProp 𝕄) = held (SparseCore.T d) arrays (atLaunch m d) := by
  rw [held_arrays]
  unfold unscopedBufs
  rw [show (Finset.univ.filter fun b : Ref sig .tc => ¬ b.isScoped) = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

variable [FloatOps F]

/-- The four host operations: the conversion, the spread, the cut, the reshape. -/
abbrev toWord : HloOp τ sig (Elt F) :=
  StableHlo.unary main_arg2 main_v0 (fptosi 32 : (⟨S_, .f32⟩ : BufTy).Contents (Elt F) → (⟨S_, .i32⟩ : BufTy).Contents (Elt F))
abbrev spread : HloOp τ sig (Elt F) :=
  StableHlo.unary main_v0 main_v1 (broadcastInDim S8 ![] bcast_S_S8 : (⟨S_, .i32⟩ : BufTy).Contents (Elt F) → (⟨S8, .i32⟩ : BufTy).Contents (Elt F))
abbrev cut : HloOp τ sig (Elt F) :=
  StableHlo.unary main_v2 main_v3 ((extractStridedSlice S1 ![0] · slices_S8_S1_0) : (⟨S8, .f32⟩ : BufTy).Contents (Elt F) → (⟨S1, .f32⟩ : BufTy).Contents (Elt F))
abbrev toScalar : HloOp τ sig (Elt F) :=
  StableHlo.reshape main_v3 main_v4 (rfl : (.f32 : EltTy) = .f32) shapeCasts_S1_S_

theorem toWord_in : (toWord (F := F)).bufs ⊆ arrays := show ({rPos, rWord} : Finset (DevRef τ sig)) ⊆ arrays by decide
theorem spread_in : (spread (F := F)).bufs ⊆ arrays := show ({rWord, rList} : Finset (DevRef τ sig)) ⊆ arrays by decide
theorem cut_in : (cut (F := F)).bufs ⊆ arrays := show ({rOut, rCut} : Finset (DevRef τ sig)) ⊆ arrays by decide
theorem toScalar_in : (toScalar (F := F)).bufs ⊆ arrays := show ({rCut, rRes} : Finset (DevRef τ sig)) ⊆ arrays by decide

/-! ## What the arrays hold, from operation to operation -/

/-- Before the call, after it, and at the end. -/
def before (d : Dev nD) : Valuation τ sig (Elt F) := (spread (F := F)).result ((toWord (F := F)).result (atLaunch m d))
def after (d : Dev nD) : Valuation τ sig (Elt F) := Function.update (before m d) rOut (gathered m d)
def atEnd (d : Dev nD) : Valuation τ sig (Elt F) := (toScalar (F := F)).result ((cut (F := F)).result (after m d))

/-- The program's result on device `d`: the picked element, as a scalar array. -/
def answer (d : Dev nD) : Buf (Elt F) (resLoc d) := fun _ => picked m d

/-- Before the call every array but the word and the list is as launched. -/
theorem before_kept (d : Dev nD) {b : DevRef τ sig} (hw : b ∉ ({rWord} : Finset (DevRef τ sig))) (hl : b ∉ ({rList} : Finset (DevRef τ sig))) :
    before m d b = m (d, b) := by
  unfold before
  rw [(spread (F := F)).result_of_not_mem _ hl, (toWord (F := F)).result_of_not_mem _ hw]; rfl

/-- Before the call the list holds eight copies of the index word. -/
theorem before_list (d : Dev nD) : before m d rList = theList m d :=
  (StableHlo.unary_result _ _ _ _ _ _).trans
    (congrArg (broadcastInDim S8 ![] bcast_S_S8 : (⟨S_, .i32⟩ : BufTy).Contents (Elt F) → (⟨S8, .i32⟩ : BufTy).Contents (Elt F))
      (StableHlo.unary_result main_arg2 main_v0 (fptosi 32 : (⟨S_, .f32⟩ : BufTy).Contents (Elt F) → (⟨S_, .i32⟩ : BufTy).Contents (Elt F)) _ _ (atLaunch m d)))

theorem after_out (d : Dev nD) : after m d rOut = gathered m d := Function.update_self _ _ _
/-- The call changes the result array alone. -/
theorem after_kept (d : Dev nD) {b : DevRef τ sig} (h : b ≠ rOut) : after m d b = before m d b := Function.update_of_ne h _ _

/-- The two operations after the call change the cut element and the result alone. -/
theorem atEnd_kept (d : Dev nD) {b : DevRef τ sig} (hc : b ∉ ({rCut} : Finset (DevRef τ sig))) (hr : b ∉ ({rRes} : Finset (DevRef τ sig))) :
    atEnd m d b = after m d b := by
  unfold atEnd
  rw [(toScalar (F := F)).result_of_not_mem _ hr, (cut (F := F)).result_of_not_mem _ hc]

/-- At the end the result is the picked element. -/
theorem atEnd_res (d : Dev nD) : atEnd m d rRes = answer m d := by
  unfold atEnd
  refine (StableHlo.reshape_result _ _ _ _ _ _ _).trans ?_
  rw [show (cut (F := F)).result (after m d) rCut = extractStridedSlice S1 ![0] (gathered m d) slices_S8_S1_0 from
    (StableHlo.unary_result _ _ _ _ _ _).trans (congrArg (extractStridedSlice S1 ![0] · slices_S8_S1_0) (after_out m d))]
  exact first_of_eight (picked m d)

theorem atEnd_smp (d : Dev nD) : atEnd m d rSmp = m (smpLoc d) := by
  rw [atEnd_kept m d (by decide) (by decide), after_kept m d (by decide), before_kept m d (by decide) (by decide)]
theorem atEnd_buf (d : Dev nD) : atEnd m d rBuf = m (bufLoc d) := by
  rw [atEnd_kept m d (by decide) (by decide), after_kept m d (by decide), before_kept m d (by decide) (by decide)]
theorem atEnd_pos (d : Dev nD) : atEnd m d rPos = m (posLoc d) := by
  rw [atEnd_kept m d (by decide) (by decide), after_kept m d (by decide), before_kept m d (by decide) (by decide)]

/-! ## @main on a TensorCore -/

/-- What @main leaves the claims: the three arguments at their launch contents, the result at the picked element. -/
abbrev Final (d : Dev nD) : sProp 𝕄 :=
  iprop((smpLoc d ↦{fullShare} m (smpLoc d)) ∗ (bufLoc d ↦{fullShare} m (bufLoc d)) ∗ (posLoc d ↦{fullShare} m (posLoc d))
    ∗ resLoc d ↦{fullShare} answer m d)

/-- The eight arrays before the call, one by one. -/
theorem before_held (d : Dev nD) :
    (held (SparseCore.T d) arrays ((spread (F := F)).result ((toWord (F := F)).result (atLaunch m d))) : sProp 𝕄)
      = iprop((smpLoc d ↦{fullShare} before m d rSmp) ∗ (bufLoc d ↦{fullShare} m (bufLoc d)) ∗ (posLoc d ↦{fullShare} before m d rPos)
          ∗ (wordLoc d ↦{fullShare} before m d rWord) ∗ (listLoc d ↦{fullShare} theList m d) ∗ (outLoc d ↦{fullShare} m (outLoc d))
          ∗ (cutLoc d ↦{fullShare} before m d rCut) ∗ resLoc d ↦{fullShare} before m d rRes) := by
  refine (held_arrays (F := F) d (before m d)).trans ?_
  rw [before_list, before_kept m d (b := rBuf) (by decide) (by decide), before_kept m d (b := rOut) (by decide) (by decide)]

/-- The eight arrays after the call, one by one. -/
theorem after_held (d : Dev nD) :
    (held (SparseCore.T d) arrays (after m d) : sProp 𝕄)
      = iprop((smpLoc d ↦{fullShare} before m d rSmp) ∗ (bufLoc d ↦{fullShare} m (bufLoc d)) ∗ (posLoc d ↦{fullShare} before m d rPos)
          ∗ (wordLoc d ↦{fullShare} before m d rWord) ∗ (listLoc d ↦{fullShare} theList m d) ∗ (outLoc d ↦{fullShare} gathered m d)
          ∗ (cutLoc d ↦{fullShare} before m d rCut) ∗ resLoc d ↦{fullShare} before m d rRes) := by
  rw [held_arrays, after_out, after_kept m d (b := rSmp) (by decide), after_kept m d (b := rBuf) (by decide), after_kept m d (b := rPos) (by decide),
    after_kept m d (b := rWord) (by decide), after_kept m d (b := rList) (by decide), after_kept m d (b := rCut) (by decide),
    after_kept m d (b := rRes) (by decide), before_list, before_kept m d (b := rBuf) (by decide) (by decide)]

/-- The eight arrays at the end, one by one. -/
theorem end_held (d : Dev nD) :
    (held (SparseCore.T d) arrays ((toScalar (F := F)).result ((cut (F := F)).result (after m d))) : sProp 𝕄)
      = iprop((smpLoc d ↦{fullShare} m (smpLoc d)) ∗ (bufLoc d ↦{fullShare} m (bufLoc d)) ∗ (posLoc d ↦{fullShare} m (posLoc d))
          ∗ (wordLoc d ↦{fullShare} atEnd m d rWord) ∗ (listLoc d ↦{fullShare} atEnd m d rList) ∗ (outLoc d ↦{fullShare} atEnd m d rOut)
          ∗ (cutLoc d ↦{fullShare} atEnd m d rCut) ∗ resLoc d ↦{fullShare} answer m d) := by
  refine (held_arrays (F := F) d (atEnd m d)).trans ?_
  rw [atEnd_smp, atEnd_buf, atEnd_pos, atEnd_res]

theorem call_takes (d : Dev nD) : (bigSep Finset.univ fun c : Fin ((K (F := F)).nCore 0) => (P m).st 0 d c) = Into m d :=
  bigSep_univ_of_subsingleton (0 : Fin 1)
theorem call_gives (d : Dev nD) : (bigSep Finset.univ fun c : Fin ((K (F := F)).nCore 0) => (P m).dn 0 d c) = Back m d :=
  bigSep_univ_of_subsingleton (0 : Fin 1)

/-- @main on device `d`'s TensorCore, from the eight arrays at the launch memory to `Final`. -/
theorem main_run (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Final m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  -- the index word, and the list of its eight copies
  iapply (wp_hlo_within 𝒱 (SparseCore.T d) none Set.univ (op := toWord) (S := arrays) toWord_in (V := atLaunch m d)) $$ [Hb Hheld]
  · iframe Hb Hheld
  iintro ⟨Hb, Hheld⟩
  rw [wp_ret]; imodintro
  iapply (wp_hlo_within 𝒱 (SparseCore.T d) none Set.univ (op := spread) (S := arrays) spread_in (V := (toWord (F := F)).result (atLaunch m d))) $$ [Hb Hheld]
  · iframe Hb Hheld
  iintro ⟨Hb, Hheld⟩
  rw [wp_ret]; imodintro
  ihave Hheld := (Entails.of_eq (before_held m d)) $$ Hheld
  icases Hheld with ⟨Hsmp, Hbuf, Hpos, Hword, Hlist, Hout, Hcut, Hres⟩
  -- the call, from the list, the buffer and the result array
  iapply ((K (F := F)).wp_run (D (F := F)) 𝒱 (EH := EH) (P := P m) κ d 0) $$ [Hst Hsmp Hbuf Hpos Hword Hlist Hout Hcut Hres Hb Hts]
  isplitr; · iexact Hctx
  isplitl [Hst]; · iexact Hst
  isplitl [Hlist Hbuf Hout]
  · rw [call_takes]
    isplitl [Hlist]; · iexact Hlist
    isplitl [Hbuf]; · iexact Hbuf
    iexact Hout
  iintro ⟨Hst, Hdn⟩
  ihave Hdn := (Entails.of_eq (call_gives m d)) $$ Hdn
  icases Hdn with ⟨Hlist, Hbuf, Hout⟩
  -- the cut and the reshape, over the eight arrays again
  iapply (wp_hlo_within 𝒱 (SparseCore.T d) none Set.univ (op := cut) (S := arrays) cut_in (V := after m d)) $$ [Hb Hsmp Hbuf Hpos Hword Hlist Hout Hcut Hres]
  · isplitl [Hb]; · iexact Hb
    rw [after_held]
    iframe Hsmp Hbuf Hpos Hword Hlist Hout Hcut Hres
  iintro ⟨Hb, Hheld⟩
  rw [wp_ret]; imodintro
  iapply (wp_hlo_within 𝒱 (SparseCore.T d) none Set.univ (op := toScalar) (S := arrays) toScalar_in (V := (cut (F := F)).result (after m d))) $$ [Hb Hheld]
  · iframe Hb Hheld
  iintro ⟨Hb, Hheld⟩
  rw [wp_ret]; imodintro; imodintro
  ihave Hheld := (Entails.of_eq (end_held m d)) $$ Hheld
  icases Hheld with ⟨Hsmp, Hbuf, Hpos, -, -, -, -, Hres⟩
  isplitl [Hst]; · iexact Hst
  isplitr [Hb Hts]
  · iframe Hsmp Hbuf Hpos Hres
  isplitl [Hb] <;> iassumption

/-! ## The program's run -/

/-- What the claims read of device `d`'s final memory: the result is the picked element, the arguments are as launched. -/
def Ends (d : Dev nD) (f : (ℓ : Loc nD τ sig) → Buf (Elt F) ℓ) : Prop :=
  f (resLoc d) = answer m d ∧ f (smpLoc d) = m (smpLoc d) ∧ f (bufLoc d) = m (bufLoc d) ∧ f (posLoc d) = m (posLoc d)

/-- An array held whole at contents `f` holds `f` in memory. -/
theorem read_off (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨Hf, HSI⟩
  ihave H := (persistent_entails_right (SI_pointsTo_agree (st := s) (ℓ := ℓ) (I := Finset.univ) (q := fullShare) (f := f))) $$ [HSI Hf]
  · iframe HSI Hf
  icases H with ⟨%h, HSI, -⟩
  isplitr; · ipureintro; exact funext fun i => h i (Finset.mem_univ i)
  iexact HSI

theorem final_reads (d : Dev nD) (s : Phys nD τ sig (Elt F)) : iprop(Final m d ∗ SI s) ⊢ (⌜Ends m d s.mem.mem⌝ : sProp 𝕄) := by
  iintro ⟨⟨Hsmp, Hbuf, Hpos, Hres⟩, HSI⟩
  ihave H := (read_off s (smpLoc d) _) $$ [Hsmp HSI]; · iframe Hsmp HSI
  icases H with ⟨%h1, HSI⟩
  ihave H := (read_off s (bufLoc d) _) $$ [Hbuf HSI]; · iframe Hbuf HSI
  icases H with ⟨%h2, HSI⟩
  ihave H := (read_off s (posLoc d) _) $$ [Hpos HSI]; · iframe Hpos HSI
  icases H with ⟨%h3, HSI⟩
  ihave H := (read_off s (resLoc d) _) $$ [Hres HSI]; · iframe Hres HSI
  icases H with ⟨%h4, -⟩
  ipureintro; exact ⟨h4, h1, h2, h3⟩

/-- THE PROGRAM'S RUN, for any float values and any launch memory whose index word is an index of the buffer: every
    execution terminates without a fault; on every device the result is the picked element and the arguments are
    unchanged; every semaphore counter is back at zero. -/
theorem run_all [∀ e, Nonempty (Elt F e)] (hok : IndexOK m) :
    θ_run (Cert.KernelIdeal.defs (F := F)) (Cert.KernelIdeal.threads (F := F)) ⟨m, fun _ => 0, ρ⟩
      (fun r => (∀ d : Dev nD, Ends m d r.2.mem) ∧ r.2.sem = fun _ => 0) :=
  SparseCore.Cfg.θ_run_sc_quiescent (K := K (F := F)) (D := D (F := F)) (𝒱 := 𝒱) (EH := EH) (P := P m) (A := ∅) callFacts v₀
    (fun q hq => match q with | 0 => nomatch hq)
    (fun q _ => match q with | 0 => task_obl m callFacts hok)
    (fun q _ => match q with | 0 => SparseCore.Cfg.VecSplit.of_plain (oneTask m))
    m ρ main (fun _ => iprop(emp)) (Final m) (u₀ (F := F)) (sep_elim_left.trans (hu₀ m)) (main_run m ρ) (fun d s => Ends m d s.mem.mem) (final_reads m) _
    (fun _ h hz => ⟨h, hz⟩)

end Cert.Proof.Run

end
-- ==== Proof.Reference.lean ====
/-
  The reference's run. Its operations fall in three parts: the eight that make the result (the index word, its wrap where it
  is negative, the one-element slice, the reshape), then those that make the feedback sample and the updated buffer, then
  those of the next index's remainder. The last two parts make values that the function doesn't return. So the result is
  read off the first part alone, and all that is used of the others is which buffers they write.
-/
module

public import proofs.«01_k».proof.Proof.Gen.ReferenceIdeal
public import Idealize.ShloMosaic.Lib.StableHlo.Run
public import Idealize.ShloMosaic.Lib.Pipeline.Frame

@[expose] public section

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-- The operations that make the result: from the index to the picked element. -/
abbrev lookup : List (HloOp τ sig (Elt F)) :=
  [ unary main_arg2 main_v0 (fptosi 32 : (⟨S_, .f32⟩ : BufTy).Contents (Elt F) → (⟨S_, .i32⟩ : BufTy).Contents (Elt F)),
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 1000000#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v3] ⟨S_, .i32⟩ main_v4 ((fun x i => Host.dynamicSlice S1 x (fun k => (i k (Shape.Idx.first h_S_)).toInt) sliceFits_S1000000_S1) : (⟨S1000000, .f32⟩ : BufTy).Contents (Elt F) → (Fin 1 → (⟨S_, .i32⟩ : BufTy).Contents (Elt F)) → (⟨S1, .f32⟩ : BufTy).Contents (Elt F)),
    reshape main_v4 main_v5 (rfl : (.f32 : EltTy) = .f32) shapeCasts_S1_S_ ]

/-- The buffers `lookup` writes, one per operation. -/
abbrev lookupWritten : List (Ref sig .tc) :=
  [main_v0, main_c, main_v1, main_c_0, main_v2, main_v3, main_v4, main_v5]

/-- `lookup` writes no buffer but those listed. -/
theorem lookup_writes : (lookup : List (HloOp τ sig (Elt F))).Forall fun op => op.writes ⊆ (lookupWritten.map (Proc.devRef (τ := τ) .tc)).toFinset :=
  forall_writes_sub_of_map rfl

/-- Every buffer an operation of `lookup` touches is one of the TensorCore's. -/
theorem lookup_touches : (lookup : List (HloOp τ sig (Elt F))).Forall fun op => op.bufs ⊆ tcRefs τ sig :=
  ⟨unary_bufs_sub .., nullary_bufs_sub .., binary_bufs_sub .., nullary_bufs_sub .., binary_bufs_sub .., ternary_bufs_sub .., unaryIndexed_bufs_sub .., reshape_bufs_sub ..⟩

/-- The operations that make the feedback sample and write it in the buffer. -/
abbrev update : List (HloOp τ sig (Elt F)) :=
  [ nullary main_cst (constant S_ .f32 0x3F333333#32),
    binary main_v5 main_cst main_v6 (mulf : (⟨S_, .f32⟩ : BufTy).Contents (Elt F) → (⟨S_, .f32⟩ : BufTy).Contents (Elt F) → (⟨S_, .f32⟩ : BufTy).Contents (Elt F)),
    binary main_arg0 main_v6 main_v7 (addf : (⟨S_, .f32⟩ : BufTy).Contents (Elt F) → (⟨S_, .f32⟩ : BufTy).Contents (Elt F) → (⟨S_, .f32⟩ : BufTy).Contents (Elt F)),
    nullary main_c_1 (constantI S_ 32 0#32),
    binary main_v0 main_c_1 main_v8 (cmpi .slt : (⟨S_, .i32⟩ : BufTy).Contents (Elt F) → (⟨S_, .i32⟩ : BufTy).Contents (Elt F) → (⟨S_, .i1⟩ : BufTy).Contents (Elt F)),
    nullary main_c_2 (constantI S_ 32 1000000#32),
    binary main_v0 main_c_2 main_v9 (addi : (⟨S_, .i32⟩ : BufTy).Contents (Elt F) → (⟨S_, .i32⟩ : BufTy).Contents (Elt F) → (⟨S_, .i32⟩ : BufTy).Contents (Elt F)),
    ternary main_v8 main_v9 main_v0 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v10 main_v11 (broadcastInDim S1 ![] bcast_S_S1 : (⟨S_, .i32⟩ : BufTy).Contents (Elt F) → (⟨S1, .i32⟩ : BufTy).Contents (Elt F)),
    ternary main_arg1 main_v11 main_v7 main_v12 ((fun x i u => Host.scatter scatter_S1000000_S1_S__n_0_0_0 (fun _ b => b) x i u) : (⟨S1000000, .f32⟩ : BufTy).Contents (Elt F) → (⟨S1, .i32⟩ : BufTy).Contents (Elt F) → (⟨S_, .f32⟩ : BufTy).Contents (Elt F) → (⟨S1000000, .f32⟩ : BufTy).Contents (Elt F)),
    nullary main_cst_3 (constant S_ .f32 0x3F800000#32),
    binary main_arg2 main_cst_3 main_v13 (addf : (⟨S_, .f32⟩ : BufTy).Contents (Elt F) → (⟨S_, .f32⟩ : BufTy).Contents (Elt F) → (⟨S_, .f32⟩ : BufTy).Contents (Elt F)),
    nullary main_cst_4 (constant S_ .f32 0x49742400#32) ]

/-- The buffers `update` writes, one per operation. -/
abbrev updateWritten : List (Ref sig .tc) :=
  [main_cst, main_v6, main_v7, main_c_1, main_v8, main_c_2, main_v9, main_v10, main_v11, main_v12, main_cst_3, main_v13, main_cst_4]

/-- `update` writes no buffer but those listed. -/
theorem update_writes : (update : List (HloOp τ sig (Elt F))).Forall fun op => op.writes ⊆ (updateWritten.map (Proc.devRef (τ := τ) .tc)).toFinset :=
  forall_writes_sub_of_map rfl

/-- Every buffer an operation of `update` touches is one of the TensorCore's. -/
theorem update_touches : (update : List (HloOp τ sig (Elt F))).Forall fun op => op.bufs ⊆ tcRefs τ sig :=
  ⟨nullary_bufs_sub .., binary_bufs_sub .., binary_bufs_sub .., nullary_bufs_sub .., binary_bufs_sub .., nullary_bufs_sub .., binary_bufs_sub .., ternary_bufs_sub .., unary_bufs_sub .., ternary_bufs_sub .., nullary_bufs_sub .., binary_bufs_sub .., nullary_bufs_sub ..⟩

/-- The operations of the next index's remainder. -/
abbrev advance : List (HloOp τ sig (Elt F)) :=
  [ TRef.unary (.of main_cst_4) main_call0.v0 id,
    TRef.binary (.of main_v13) main_call0.v0 main_call0.v1 Host.remf,
    TRef.nullary main_call0.cst (constant S_ .f32 0x00000000#32),
    TRef.binary main_call0.v1 main_call0.cst main_call0.v2 (cmpf .une),
    TRef.nullary main_call0.cst_0 (constant S_ .f32 0x00000000#32),
    TRef.binary main_call0.v1 main_call0.cst_0 main_call0.v3 (cmpf .olt),
    TRef.nullary main_call0.cst_1 (constant S_ .f32 0x00000000#32),
    TRef.binary main_call0.v0 main_call0.cst_1 main_call0.v4 (cmpf .olt),
    TRef.binary main_call0.v3 main_call0.v4 main_call0.v5 (cmpi .ne),
    TRef.binary main_call0.v5 main_call0.v2 main_call0.v6 andi,
    TRef.binary main_call0.v1 main_call0.v0 main_call0.v7 addf,
    TRef.ternary main_call0.v6 main_call0.v7 main_call0.v1 main_call0.v8 select ]

/-- The buffers `advance` writes, one per operation. -/
abbrev advanceWritten : List (Ref sig .tc) :=
  [main_call0_v0, main_call0_v1, main_call0_cst, main_call0_v2, main_call0_cst_0, main_call0_v3, main_call0_cst_1, main_call0_v4, main_call0_v5, main_call0_v6, main_call0_v7, main_v14]

/-- `advance` writes no buffer but those listed. -/
theorem advance_writes : (advance : List (HloOp τ sig (Elt F))).Forall fun op => op.writes ⊆ (advanceWritten.map (Proc.devRef (τ := τ) .tc)).toFinset :=
  forall_writes_sub_of_map rfl

/-- Every buffer an operation of `advance` touches is one of the TensorCore's. -/
theorem advance_touches : (advance : List (HloOp τ sig (Elt F))).Forall fun op => op.bufs ⊆ tcRefs τ sig :=
  ⟨unary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub ..⟩

/-- All the reference's operations, in order. -/
abbrev line : List (HloOp τ sig (Elt F)) := lookup ++ (update ++ advance)

/-- The reference is that line. -/
theorem main_is_line (d : Dev nD) : main (F := F) d = seq line := rfl

/-- Every buffer an operation of the line touches is one of the TensorCore's. -/
theorem line_touches : (line : List (HloOp τ sig (Elt F))).Forall fun op => op.bufs ⊆ tcRefs τ sig :=
  List.forall_append.mpr ⟨lookup_touches, List.forall_append.mpr ⟨update_touches, advance_touches⟩⟩

/-- The reference's tensor-core buffers are none of them a scope's. -/
theorem no_scoped_buffer : (Finset.univ.filter fun b : Ref sig .tc => b.isScoped) = ∅ := by decide
/-- The reference has no semaphore, so none of a scope's. -/
theorem no_scoped_semaphore : (Finset.univ.filter fun s : SemLoc sig => s.isScoped .tc) = ∅ := by decide

/-- A buffer the update and the remainder don't write ends as the lookup leaves it. -/
theorem line_eq_lookup (V : Valuation τ sig (Elt F)) {r : Ref sig .tc} (hu : r ∉ updateWritten) (ha : r ∉ advanceWritten) :
    after line V (Proc.devRef .tc r) = after lookup V (Proc.devRef .tc r) := by
  rw [line, after_append, after_append, after_of_writes_sub advance _ advance_writes ha, after_of_writes_sub update _ update_writes hu]

/-- A buffer no operation writes ends as it began. -/
theorem line_keeps (V : Valuation τ sig (Elt F)) {r : Ref sig .tc} (hl : r ∉ lookupWritten) (hu : r ∉ updateWritten)
    (ha : r ∉ advanceWritten) : after line V (Proc.devRef .tc r) = V (Proc.devRef .tc r) :=
  (line_eq_lookup V hu ha).trans (after_of_writes_sub lookup V lookup_writes hl)

/-- The start of the reference's slice: the index word, with the buffer's length added where it is negative. -/
def start (p : FVec F S_ .f32) : IVec S_ 32 :=
  select (cmpi .slt (fptosi 32 p) (constantI S_ 32 0#32)) (addi (fptosi 32 p) (constantI S_ 32 1000000#32)) (fptosi 32 p)

/-- The reference's result as a function of the buffer and the index: the one-element slice at `start`, as a scalar. -/
def result (b : FVec F S1000000 .f32) (p : FVec F S_ .f32) : FVec F S_ .f32 :=
  shapeCast S_ (Host.dynamicSlice S1 b (fun _ => (start p (Shape.Idx.first h_S_)).toInt)
    sliceFits_S1000000_S1) shapeCasts_S1_S_

/-- What the lookup leaves in the start's buffer. -/
theorem lookup_start (V : Valuation τ sig (Elt F)) :
    after (lookup.take 6) V (Proc.devRef .tc main_v3) = start (F := F) (V (Proc.devRef .tc main_arg2)) := by
  simp only [lookup, List.take_succ_cons, List.take_zero]
  after_results
  rfl

/-- The operations before the slice leave the buffer as it was. -/
theorem lookup_buffer (V : Valuation τ sig (Elt F)) :
    after (lookup.take 6) V (Proc.devRef .tc main_arg1) = V (Proc.devRef .tc main_arg1) := by
  simp only [lookup, List.take_succ_cons, List.take_zero]
  after_results

/-- What the slice and the reshape leave in the result's buffer, from the start `s` and the buffer `b`. -/
theorem lookup_slice (V : Valuation τ sig (Elt F)) (b : FVec F S1000000 .f32) (s : IVec S_ 32)
    (hb : V (Proc.devRef .tc main_arg1) = b) (hs : V (Proc.devRef .tc main_v3) = s) :
    after (lookup.drop 6) V (Proc.devRef .tc main_v5)
      = (shapeCast S_ (Host.dynamicSlice S1 b (fun _ => (s (Shape.Idx.first h_S_)).toInt) sliceFits_S1000000_S1) shapeCasts_S1_S_ : FVec F S_ .f32) := by
  subst hb hs
  simp only [lookup, List.drop_succ_cons, List.drop_zero, after_cons, after_nil]
  rw [reshape_result, unaryIndexed_result]
  funext i
  refine congrArg (fun x : FVec F S1 .f32 => shapeCast S_ x shapeCasts_S1_S_ i) ?_
  refine congrArg (fun x : Fin 1 → Int => Host.dynamicSlice S1 (V (Proc.devRef .tc main_arg1) : FVec F S1000000 .f32) x sliceFits_S1000000_S1) ?_
  funext k
  match k with
  | ⟨0, _⟩ => rfl

/-- What the lookup leaves in the result's buffer. -/
theorem lookup_result (V : Valuation τ sig (Elt F)) :
    after lookup V (Proc.devRef .tc main_v5) = result (F := F) (V (Proc.devRef .tc main_arg1)) (V (Proc.devRef .tc main_arg2)) := by
  have h : (lookup : List (HloOp τ sig (Elt F))) = lookup.take 6 ++ lookup.drop 6 := rfl
  rw [h, after_append]
  exact lookup_slice _ _ _ (lookup_buffer V) (lookup_start V)

/-- THE REFERENCE'S RUN, for any float values and from any memory with zero counters: it terminates with `result` of its
    arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v5) = result (F := F) (m ((d.tc : Thread nD τ).loc main_arg1)) (m ((d.tc : Thread nD τ).loc main_arg2))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2) :=
  (θ_run defs _ _).mono
    (fun _ h d => ⟨(h d main_v5).trans ((line_eq_lookup _ (by decide) (by decide)).trans (lookup_result _)),
      (h d main_arg0).trans (line_keeps _ (by decide) (by decide) (by decide)),
      (h d main_arg1).trans (line_keeps _ (by decide) (by decide) (by decide)),
      (h d main_arg2).trans (line_keeps _ (by decide) (by decide) (by decide))⟩)
    (run_seq no_scoped_buffer no_scoped_semaphore defs main (fun _ => line) main_is_line (fun _ => line_touches) m ρ)

end Cert.Proof.Reference

end
-- ==== Proof.Claims.lean ====
/-
  The certificate's claims, each from a run.

  The lookup's run (`run_all`) is proved once, for any float values. The kernel as written and its idealization have the
  same text, so the frame of either is that run, at bit patterns for the one and at ideal values for the other. The
  reference's run gives its frame and its result, which is the same picked element.
-/
module

public import proofs.«01_k».proof.Defs
public import proofs.«01_k».proof.Proof.Program
public import proofs.«01_k».proof.Proof.Gen.Kernel
public import proofs.«01_k».proof.Proof.Gen.KernelIdeal
public import proofs.«01_k».proof.Proof.Gen.ReferenceIdeal
public import proofs.«01_k».proof.Proof.Reference
public import proofs.«01_k».proof.Proof.Gen.Pre_index_in_buffer

@[expose] public section

noncomputable section

namespace Cert.Proof

open Idealize.ShloMosaic Idealize.SL.Sem
open Cert.Proof.Lookup Cert.Proof.Run

/-- The kernel's precondition at bit patterns: the index word is an index of the buffer. -/
theorem indexOK_bits (m : (ℓ : Loc Cert.KernelIdeal.nD Cert.KernelIdeal.τ Cert.KernelIdeal.sig) → Buf (Elt Bits) ℓ)
    (h : Cert.Pre_Kernel m) : IndexOK (F := Bits) m :=
  fun d => inBuffer_of_pre (F := Bits) _ _ _ (h d)

/-- The kernel's precondition at ideal values: the index word is an index of the buffer. -/
theorem indexOK_ideal (m : (ℓ : Loc Cert.KernelIdeal.nD Cert.KernelIdeal.τ Cert.KernelIdeal.sig) → Buf (Elt Ideal) ℓ)
    (h : Cert.Pre_KernelIdeal m) : IndexOK (F := Ideal) m :=
  fun d => inBuffer_of_pre (F := Ideal) _ _ _ (h d)

/-- THE KERNEL'S FRAME: where the index is in the buffer it terminates without a fault, its arguments unchanged, every
    semaphore counter back at zero. -/
theorem frame_kernel : Cert.quiescent_Kernel := fun m ρ hpre =>
  (θ_run Cert.KernelIdeal.defs _ _).mono (fun _ h => ⟨fun c => (h.1 c).2, h.2⟩) (run_all (F := Bits) m ρ (indexOK_bits m hpre))

/-- The frame of the kernel over ideal values. -/
theorem frame_kernelIdeal : Cert.quiescent_KernelIdeal := fun m ρ hpre =>
  (θ_run Cert.KernelIdeal.defs _ _).mono (fun _ h => ⟨fun c => (h.1 c).2, h.2⟩) (run_all (F := Ideal) m ρ (indexOK_ideal m hpre))

/-- THE REFERENCE'S FRAME, from any launch memory: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Proof.Reference.run (F := Ideal) m ρ)

/-- The reference's frame where the index is in the buffer: a case of the one from any launch memory. -/
theorem frame_reference_inBuffer : Cert.quiescent_ReferenceIdeal_pre_index_in_buffer := fun m ρ _ => frame_reference m ρ trivial

/-- THE REFERENCE'S RESULT: from a launch memory whose index word is an index of the buffer, the reference ends with the
    picked element and its arguments unchanged. -/
theorem reference_value {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg)
    (hok : ∀ c : Dev Cert.ReferenceIdeal.nD, InBuffer (wordOf (F := F) (m ((c.tc : Thread Cert.ReferenceIdeal.nD Cert.ReferenceIdeal.τ).loc Cert.ReferenceIdeal.main_arg2)))) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v5)
            = (fun _ => pick (α := Elt F .f32) (m ((c.tc : Thread Cert.ReferenceIdeal.nD Cert.ReferenceIdeal.τ).loc Cert.ReferenceIdeal.main_arg1))
                (wordOf (F := F) (m ((c.tc : Thread Cert.ReferenceIdeal.nD Cert.ReferenceIdeal.τ).loc Cert.ReferenceIdeal.main_arg2))))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun _ h c => ⟨(h c).1.trans (slice_eq_pick _ _ (hok c) _ _ (fun a => by
      match a with
      | ⟨0, _⟩ => rfl) _), (h c).2⟩)
    (Cert.Proof.Reference.run (F := F) m ρ)

/-- THE VALUE CLAIM: over ideal values, where the index is in the buffer and the two programs start from the same
    arguments, both end with the same result (the picked element) and with their arguments unchanged. -/
theorem value_claim : Cert.algebraic_KernelIdeal_ReferenceIdeal := fun m ρ m' ρ' hpre hargs => by
  have hok := indexOK_ideal m hpre
  refine ⟨fun c => answer m c, ?_, ?_⟩
  · exact (θ_run Cert.KernelIdeal.defs _ _).mono (fun _ h c => h.1 c) (run_all (F := Ideal) m ρ hok)
  · refine (θ_run Cert.ReferenceIdeal.defs _ _).mono (fun _ h c => ⟨(h c).1.trans ?_, (h c).2⟩)
      (reference_value (F := Ideal) m' ρ' fun c => by rw [(hargs c).2.2]; exact hok c)
    rw [(hargs c).2.1, (hargs c).2.2]; rfl

end Cert.Proof

end
-- ==== Proof.lean ====
/-
  The certificate of the delay-line lookup: its six claims, put together. Proof/Lookup.lean has the values apart from any
  run, Proof/Setup.lean, Proof/Task.lean and Proof/Program.lean the kernel's run, Proof/Reference.lean the reference's run,
  Proof/Claims.lean each claim.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_index_in_buffer
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate: the kernel's frame, as written and over ideal values, the reference's, the
    idealization's (the two texts are the same, so nothing is left to show), and the equality of the results. -/
theorem claim : Cert.Claim :=
  ⟨Cert.Kernel.Gen.facts, Cert.KernelIdeal.Gen.facts, Cert.ReferenceIdeal.Gen.facts, Cert.Pre_index_in_buffer.Gen.facts,
    frame_kernel, frame_kernelIdeal, frame_reference, frame_reference_inBuffer, trivial, value_claim⟩

end Cert.Proof

end
